-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x768 : Shape := ⟨2, ![8192, 768]⟩
abbrev S8192x1x768 : Shape := ⟨3, ![8192, 1, 768]⟩
abbrev S512x1x768 : Shape := ⟨3, ![512, 1, 768]⟩
abbrev S_ : Shape := ⟨0, ![]⟩
abbrev S512x768 : Shape := ⟨2, ![512, 768]⟩

abbrev nBuf : Table → Nat
  | .hbm => 2
  | .shared => 4
  | _ => 0

abbrev bufTy : (tb : Table) → Fin (nBuf tb) → BufTy
  | .hbm, ⟨0, _⟩ => ⟨S8192x768, .f32⟩
  | .hbm, ⟨1, _⟩ => ⟨S8192x1x768, .f32⟩
  | .shared, ⟨0, _⟩ => ⟨S512x1x768, .f32⟩
  | .shared, ⟨1, _⟩ => ⟨S512x1x768, .f32⟩
  | .shared, ⟨2, _⟩ => ⟨S512x1x768, .f32⟩
  | .shared, ⟨3, _⟩ => ⟨S512x1x768, .f32⟩
  | _, _ => ⟨S8192x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_3 : BitVec 32 := 0#32
  ![v1.toNat, 0]
def k0_off2 (i : grid0.Coords) (c0_i32_20 : BitVec 32) : Fin 3 → Nat :=
  let arg0 : BitVec 32 := BitVec.ofNat 32 (i 0).val
  let c4096_i32 : BitVec 32 := 4096#32
  let v0 : BitVec 32 := Scalar.muli arg0 c4096_i32
  let v20 : BitVec 32 := Scalar.addi v0 c0_i32_20
  let c0_i32_21 : BitVec 32 := 0#32
  let c0_i32_22 : BitVec 32 := 0#32
  ![v20.toNat, 0, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1x768 : Shape := ⟨3, ![8192, 1, 768]⟩

abbrev nBuf : Space → Nat
  | .hbm => 26
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S8192x768, .f32⟩
  | .hbm, ⟨21, _⟩ => ⟨S8192x768, .i1⟩
  | .hbm, ⟨22, _⟩ => ⟨S_, .f32⟩
  | .hbm, ⟨23, _⟩ => ⟨S8192x768, .f32⟩
  | .hbm, ⟨24, _⟩ => ⟨S8192x768, .f32⟩
  | .hbm, ⟨25, _⟩ => ⟨S8192x1x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Rows.lean ====
/-
  The mathematics of the row copy, with no program in sight of it but the shapes: what the result holds
  (`rowsOf`), the sixteen row blocks the two SparseCores share between them (`xRows`, `oRows`), and that
  the blocks are disjoint and fill their arrays.
-/
module

public import proofs.«01_k».proof.Defs
public import Idealize.ShloMosaic.Lib.Tactic
public import proofs.«01_k».proof.Proof.Gen.KernelIdeal

@[expose] public section

namespace Cert.Proof.Rows

open Cert.KernelIdeal
open Idealize.ShloMosaic

variable {F : FTy → Type}

/-- An element of the table, by its row and its lane. -/
def at2 (r : Fin 8192) (l : Fin 768) : S8192x768.Idx := fun | ⟨0, _⟩ => r | ⟨1, _⟩ => l

/-- What the kernel's result holds: at `(row, 0, lane)`, the table's element `(row, lane)`. -/
def rowsOf (t : S8192x768.Idx → Elt F .f32) : S8192x1x768.Idx → Elt F .f32 := fun i => t (at2 (i 0) (i 2))

/-! ## The row blocks: core `c`'s block `r` starts at row `4096 c + 512 r` -/

/-- Every block lies within the table; -/
theorem xRows_inb (p : Fin 2 × Fin 8) : ∀ a, (![4096 * p.1.val + 512 * p.2.val, 0] : Fin 2 → ℕ) a + S512x768.size a ≤ S8192x768.size a := by
  have := p.1.isLt; have := p.2.isLt; intro a; fin_cases a <;> simp <;> omega

/-- every block lies within the result. -/
theorem oRows_inb (p : Fin 2 × Fin 8) : ∀ a, (![4096 * p.1.val + 512 * p.2.val, 0, 0] : Fin 3 → ℕ) a + S512x1x768.size a ≤ S8192x1x768.size a := by
  have := p.1.isLt; have := p.2.isLt; intro a; fin_cases a <;> simp <;> omega

/-- Block `p`'s elements of the table. -/
def xRows (p : Fin 2 × Fin 8) : Finset S8192x768.Idx := (Rect.unit (s := S8192x768) ![4096 * p.1.val + 512 * p.2.val, 0] S512x768.size (xRows_inb p)).set
/-- Block `p`'s elements of the result. -/
def oRows (p : Fin 2 × Fin 8) : Finset S8192x1x768.Idx := (Rect.unit (s := S8192x1x768) ![4096 * p.1.val + 512 * p.2.val, 0, 0] S512x1x768.size (oRows_inb p)).set

/-- An element of the table is in block `p` when its row is; -/
theorem mem_xRows {p : Fin 2 × Fin 8} {i : S8192x768.Idx} :
    i ∈ xRows p ↔ 4096 * p.1.val + 512 * p.2.val ≤ (i 0).val ∧ (i 0).val < 4096 * p.1.val + 512 * p.2.val + 512 := by
  refine Rect.mem_set_unit.trans ⟨fun h => h 0, fun h a => ?_⟩
  match a with
  | ⟨0, _⟩ => exact h
  | ⟨1, _⟩ => exact ⟨Nat.zero_le _, by have := (i 1).isLt; simpa using this⟩

/-- so is an element of the result. -/
theorem mem_oRows {p : Fin 2 × Fin 8} {i : S8192x1x768.Idx} :
    i ∈ oRows p ↔ 4096 * p.1.val + 512 * p.2.val ≤ (i 0).val ∧ (i 0).val < 4096 * p.1.val + 512 * p.2.val + 512 := by
  refine Rect.mem_set_unit.trans ⟨fun h => h 0, fun h a => ?_⟩
  match a with
  | ⟨0, _⟩ => exact h
  | ⟨1, _⟩ => exact ⟨Nat.zero_le _, by have := (i 1).isLt; simpa using this⟩
  | ⟨2, _⟩ => exact ⟨Nat.zero_le _, by have := (i 2).isLt; simpa using this⟩

/-- A row determines its block. -/
theorem block_unique {p p' : Fin 2 × Fin 8} {n : ℕ} (h : 4096 * p.1.val + 512 * p.2.val ≤ n ∧ n < 4096 * p.1.val + 512 * p.2.val + 512)
    (h' : 4096 * p'.1.val + 512 * p'.2.val ≤ n ∧ n < 4096 * p'.1.val + 512 * p'.2.val + 512) : p = p' := by
  obtain ⟨c, r⟩ := p; obtain ⟨c', r'⟩ := p'
  have := r.isLt; have := r'.isLt
  simp only at h h'
  exact Prod.ext (Fin.ext (by show c.val = c'.val; omega)) (Fin.ext (by show r.val = r'.val; omega))

/-- Every row is in some block. -/
theorem block_exists (n : ℕ) (hn : n < 8192) : ∃ p : Fin 2 × Fin 8, 4096 * p.1.val + 512 * p.2.val ≤ n ∧ n < 4096 * p.1.val + 512 * p.2.val + 512 :=
  ⟨(⟨n / 4096, by omega⟩, ⟨n % 4096 / 512, by omega⟩), by simp only; omega⟩

/-- Two blocks of the table share no element; -/
theorem xRows_disjoint (p p' : Fin 2 × Fin 8) (h : p ≠ p') : Disjoint (xRows p) (xRows p') :=
  Finset.disjoint_left.mpr fun _ hi hi' => h (block_unique (mem_xRows.mp hi) (mem_xRows.mp hi'))

/-- the sixteen fill it. -/
theorem xRows_cover : Finset.univ.biUnion xRows = Finset.univ := by
  ext i
  simp only [Finset.mem_biUnion, Finset.mem_univ, true_and, iff_true]
  obtain ⟨p, hp⟩ := block_exists (i 0).val (i 0).isLt
  exact ⟨p, mem_xRows.mpr hp⟩

/-- Two blocks of the result share no element; -/
theorem oRows_disjoint (p p' : Fin 2 × Fin 8) (h : p ≠ p') : Disjoint (oRows p) (oRows p') :=
  Finset.disjoint_left.mpr fun _ hi hi' => h (block_unique (mem_oRows.mp hi) (mem_oRows.mp hi'))

/-- the sixteen fill it. -/
theorem oRows_cover : Finset.univ.biUnion oRows = Finset.univ := by
  ext i
  simp only [Finset.mem_biUnion, Finset.mem_univ, true_and, iff_true]
  obtain ⟨p, hp⟩ := block_exists (i 0).val (i 0).isLt
  exact ⟨p, mem_oRows.mpr hp⟩

end Cert.Proof.Rows
-- ==== Proof.Chunk.lean ====
/-
  What one block of the result holds after its block of the table went through a staging slot: the table's
  rows (`chunk_value`). A block is copied into a slot as a 512 x 768 array — the slot's 512 x 1 x 768 with
  its middle axis dropped — and out of the slot as a 512 x 1 x 768 array.
-/
module

public import proofs.«01_k».proof.Proof.Rows
public import Idealize.ShloMosaic.Lib.Exec

@[expose] public section

noncomputable section

namespace Cert.Proof.Rows

open Cert.KernelIdeal Cert.KernelIdeal.Gen
open Idealize.ShloMosaic

variable {F : FTy → Type}

/-- The grid point of core `c`. -/
def coordsS (c : Fin (grid0.bound 0)) : grid0.Coords := fun | 0 => c | ⟨_ + 1, h⟩ => absurd h (Nat.not_lt.2 (Nat.le_add_left _ _))

/-- Core `c`'s block of the table at offset `w` from its first row, in the kernel's spelling. -/
abbrev xM (c : Fin (grid0.bound 0)) (w : BitVec 32) (h : ∀ a, k0_off1 (coordsS c) w a + S512x768.size a ≤ S8192x768.size a) : Memref sig .scScalar .hbm S512x768 .f32 :=
  (Memref.whole main_arg0_scs : Memref sig .scScalar .hbm S8192x768 .f32).slice (Rect.unit (s := S8192x768) (k0_off1 (coordsS c) w) S512x768.size h) (fun _ => rfl)
/-- The result's block there. -/
abbrev oM (c : Fin (grid0.bound 0)) (w : BitVec 32) (h : ∀ a, k0_off2 (coordsS c) w a + S512x1x768.size a ≤ S8192x1x768.size a) : Memref sig .scScalar .hbm S512x1x768 .f32 :=
  (Memref.whole main_v0_scs : Memref sig .scScalar .hbm S8192x1x768 .f32).slice (Rect.unit (s := S8192x1x768) (k0_off2 (coordsS c) w) S512x1x768.size h) (fun _ => rfl)

/-- A staging slot with its middle axis dropped, as the copies into it address it. -/
abbrev flat {sp : Space} (M : Memref sig .scScalar sp S512x1x768 .f32) : Memref sig .scScalar sp S512x768 .f32 :=
  (M.slice (Rect.unit (s := S512x1x768) ![0, 0, 0] S512x1x768.size inb_S512x1x768_S512x1x768_0_0_0) (fun _ => rfl)).squeeze S512x768 squeezes_S512x1x768_S512x768

/-- An element of a block, by its row and its lane. -/
def blk2 (r : Fin 512) (l : Fin 768) : S512x768.Idx := fun | ⟨0, _⟩ => r | ⟨1, _⟩ => l

/-- An index of a unit-stride rectangle, placed: the offset plus the index. -/
theorem unit_emb_val {s : Shape} (off size : Fin s.rank → ℕ) (inb) (j : (Rect.unit (s := s) off size inb).shape.Idx) (a : Fin s.rank) :
    ((Rect.unit (s := s) off size inb).emb j a : ℕ) = off a + j a := by
  rw [Rect.emb_apply]; exact congrArg (off a + ·) (Nat.one_mul _)

/-- Dropping the middle axis keeps row and lane. -/
theorem flat_index (y : S512x1x768.Idx) :
    (Rect.unit (s := S512x1x768) ![0, 0, 0] S512x1x768.size inb_S512x1x768_S512x1x768_0_0_0).emb
      (Shape.reshapeEquiv squeezes_S512x1x768_S512x768.numel_eq (blk2 (y 0) (y 2))) = y := by
  have hy : (y 1).val = 0 := by have : (y 1).val < 1 := (y 1).isLt; omega
  rw [Shape.reshapeEquiv_eq_of_rowMajor (y := y) _ ?_]
  · funext a
    apply Fin.ext
    rw [unit_emb_val]
    match a with
    | ⟨0, _⟩ => exact Nat.zero_add _
    | ⟨1, _⟩ => exact Nat.zero_add _
    | ⟨2, _⟩ => exact Nat.zero_add _
  · rw [show S512x1x768.rowMajor y = (⟨3, ![512, 1, 768]⟩ : Shape).rowMajor y from rfl, Shape.rowMajor_val_three,
      show S512x768.rowMajor (blk2 (y 0) (y 2)) = (⟨2, ![512, 768]⟩ : Shape).rowMajor (blk2 (y 0) (y 2)) from rfl, Shape.rowMajor_val_two, hy]
    simp [blk2]

/-- What is read out of a slot after a block was copied into it: the block, whatever the slot held before. -/
theorem slot_read {sp : Space} (M : Memref sig .scScalar sp S512x1x768 .f32) (g : M.view.ty.Contents (Elt F)) (w : S512x768.Idx → Elt F .f32) (y : S512x1x768.Idx) :
    M.view.read (Elt F) ((flat M).view.write (Elt F) g w Finset.univ) y = w (blk2 (y 0) (y 2)) := by
  have e : M.view.emb y = (flat M).view.emb (blk2 (y 0) (y 2)) := (congrArg M.view.emb (flat_index y)).symm
  rw [View.read_apply, e, View.write_emb_of_mem _ _ (Finset.mem_univ _), cast_cast, cast_eq]

/-- Element `y` of a block of the result is over row and lane `y` of the block of the table at the same offset. -/
theorem block_index (c : Fin (grid0.bound 0)) (w : BitVec 32) (hx ho) (h0 : k0_off1 (coordsS c) w 0 = k0_off2 (coordsS c) w 0)
    (h1 : k0_off1 (coordsS c) w 1 = k0_off2 (coordsS c) w 2) (y : S512x1x768.Idx) :
    (xM c w hx).view.emb (blk2 (y 0) (y 2)) = at2 ((oM c w ho).view.emb y 0) ((oM c w ho).view.emb y 2) := by
  have e (a : Fin 2) := unit_emb_val (s := S8192x768) (k0_off1 (coordsS c) w) S512x768.size hx (blk2 (y 0) (y 2)) a
  have e' (a : Fin 3) := unit_emb_val (s := S8192x1x768) (k0_off2 (coordsS c) w) S512x1x768.size ho y a
  funext a
  match a with
  | ⟨0, _⟩ => exact Fin.ext ((e 0).trans ((congrArg (· + (y 0 : ℕ)) h0).trans (e' 0).symm))
  | ⟨1, _⟩ => exact Fin.ext ((e 1).trans ((congrArg (· + (y 2 : ℕ)) h1).trans (e' 2).symm))

/-- Reading a block of the table is reading the table at the block's elements; -/
theorem xM_read (c : Fin (grid0.bound 0)) (w : BitVec 32) (h) (t : S8192x768.Idx → Elt F .f32) (x : S512x768.Idx) :
    (xM c w h).view.read (Elt F) t x = t ((xM c w h).view.emb x) := rfl
/-- the result likewise. -/
theorem oM_read (c : Fin (grid0.bound 0)) (w : BitVec 32) (h) (f : S8192x1x768.Idx → Elt F .f32) (y : S512x1x768.Idx) :
    (oM c w h).view.read (Elt F) f y = f ((oM c w h).view.emb y) := rfl

/-- THE BLOCK'S VALUE: after block `r` of the table went into a slot and the slot's contents into block `r` of the
    result, that block holds the table's rows — whatever the slot and the result held before. -/
theorem chunk_value {sp : Space} (M : Memref sig .scScalar sp S512x1x768 .f32) (c : Fin (grid0.bound 0)) (w : BitVec 32) (hx ho)
    (h0 : k0_off1 (coordsS c) w 0 = k0_off2 (coordsS c) w 0) (h1 : k0_off1 (coordsS c) w 1 = k0_off2 (coordsS c) w 2)
    (t : S8192x768.Idx → Elt F .f32) (g : M.view.ty.Contents (Elt F)) (fo : S8192x1x768.Idx → Elt F .f32) :
    ∀ i ∈ (oM c w ho).view.set,
      (oM c w ho).view.writes (Elt F) fo [⟨Rect.whole S512x1x768, (ReadAs.same : ReadAs (Elt F) S512x1x768 .f32 S512x1x768 .f32).apply (M.view.read (Elt F) ((flat M).view.write (Elt F) g
        ((ReadAs.same : ReadAs (Elt F) S512x768 .f32 S512x768 .f32).apply ((xM c w hx).view.read (Elt F) t)) Finset.univ))⟩] i = rowsOf t i := by
  intro i hi
  obtain ⟨y, -, rfl⟩ := Finset.mem_map.mp hi
  have h := congrFun (View.read_writes_whole (Val := Elt F) (oM c w ho).view fo (M.view.read (Elt F) ((flat M).view.write (Elt F) g ((xM c w hx).view.read (Elt F) t) Finset.univ))) y
  rw [slot_read] at h
  rw [xM_read, block_index c w hx ho h0 h1 y, oM_read] at h
  exact h

/-- Block `r` of the table and block `r` of the result start at the same row; -/
theorem off_rows (c : Fin (grid0.bound 0)) (r : Fin 8) :
    k0_off1 (coordsS c) (BitVec.ofNat 32 (512 * r.val)) 0 = k0_off2 (coordsS c) (BitVec.ofNat 32 (512 * r.val)) 0 := by
  rw [k0_off1_eq, k0_off2_eq]; rfl
/-- and at the same lane. -/
theorem off_lanes (c : Fin (grid0.bound 0)) (r : Fin 8) :
    k0_off1 (coordsS c) (BitVec.ofNat 32 (512 * r.val)) 1 = k0_off2 (coordsS c) (BitVec.ofNat 32 (512 * r.val)) 2 := by
  rw [k0_off1_eq, k0_off2_eq]; rfl

/-- The elements under the memref of the table's block `r` are its row block; -/
theorem xM_set (c : Fin 2) (r : Fin 8) (h) : (xM c (BitVec.ofNat 32 (512 * r.val)) h).view.set = xRows (c, r) := by
  refine (View.set_slice_whole _ _).trans (Finset.ext fun i => Rect.mem_set_unit.trans (Iff.trans ?_ Rect.mem_set_unit.symm))
  rw [k0_off1_eq]; rfl
/-- the result's likewise. -/
theorem oM_set (c : Fin 2) (r : Fin 8) (h) : (oM c (BitVec.ofNat 32 (512 * r.val)) h).view.set = oRows (c, r) := by
  refine (View.set_slice_whole _ _).trans (Finset.ext fun i => Rect.mem_set_unit.trans (Iff.trans ?_ Rect.mem_set_unit.symm))
  rw [k0_off2_eq]; rfl

end Cert.Proof.Rows
end
-- ==== Proof.Body.lean ====
/-
  The kernel's body on one SparseCore's scalar sequencer (`seq_run`): from the core's eight blocks of the
  table, its eight blocks of the result, the four staging slots and the sixteen DMA counters at zero, to the
  same with the result's blocks at the table's rows (`rowsOf`). The run is symbolic and is made once, for
  either core; a block's value is `chunk_value`, applied once per block.
-/
module

public import proofs.«01_k».proof.Proof.Chunk
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Rows

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- No variant is counted. -/
abbrev 𝒱₀ : Variants := Variants.none
/-- The handshakes' rounds. -/
abbrev UH : Type := URounds (GSem nD τ sig) ℕ
/-- The resource algebra: those beside the transfers' counters. -/
abbrev UU : Type := UH × Counters

local notation "𝕄" => MT nD τ sig (HIx 1) (Elt F) ℕ UU ℕ

/-! The kernel's memrefs as its body is passed them. -/

/-- The table, whole. -/
abbrev xW : Memref sig .scScalar .hbm S8192x768 .f32 := Memref.whole main_arg0_scs
/-- The result, whole. -/
abbrev oW : Memref sig .scScalar .hbm S8192x1x768 .f32 := Memref.whole main_v0_scs
/-- The first staging slot, in the SparseCore's shared memory. -/
abbrev s0W : Memref sig .scScalar .shared S512x1x768 .f32 := Memref.whole cc0_scratch0
/-- The second. -/
abbrev s1W : Memref sig .scScalar .shared S512x1x768 .f32 := Memref.whole cc0_scratch1
/-- The third. -/
abbrev s2W : Memref sig .scScalar .shared S512x1x768 .f32 := Memref.whole cc0_scratch2
/-- The fourth. -/
abbrev s3W : Memref sig .scScalar .shared S512x1x768 .f32 := Memref.whole cc0_scratch3

variable [FloatOps F]
variable (d : Dev nD)

/-- Core `c`'s sequencer. -/
abbrev Sc (c : Fin (grid0.bound 0)) : Thread nD τ := S d (c.castLE hcore0)

/-- DMA counter `k` of core `c` at zero. -/
abbrev cell (c : Fin (grid0.bound 0)) (k : Nat) (hk : k < 16 := by decide) : sProp 𝕄 := semVal (Sc d c, SemLoc.dma (⟨k, hk⟩ : DmaSem sig)) 0

/-- A block of the table held at `f`. -/
abbrev xP (c : Fin (grid0.bound 0)) (w : BitVec 32) (h : ∀ a, k0_off1 (coordsS c) w a + S512x768.size a ≤ S8192x768.size a) (f : Buf (Elt F) ((xW).view.loc (Sc d c))) : sProp 𝕄 :=
  (xM c w h).view.loc (Sc d c) ↦[(xM c w h).view.set]{fullShare} f
/-- A block of the result held at `f`. -/
abbrev oP (c : Fin (grid0.bound 0)) (w : BitVec 32) (h : ∀ a, k0_off2 (coordsS c) w a + S512x1x768.size a ≤ S8192x1x768.size a) (f : Buf (Elt F) ((oW).view.loc (Sc d c))) : sProp 𝕄 :=
  (oM c w h).view.loc (Sc d c) ↦[(oM c w h).view.set]{fullShare} f

/-- The core's eight blocks of the table at `fx`, in the offsets' printed spelling. -/
abbrev xs (c : Fin (grid0.bound 0)) (fx : Buf (Elt F) ((xW).view.loc (Sc d c))) : sProp 𝕄 :=
  iprop(xP d c 0#32 (k0_off1_inb _ 0) fx ∗ xP d c 512#32 (k0_off1_inb _ 1) fx ∗ xP d c 1024#32 (k0_off1_inb _ 2) fx ∗ xP d c 1536#32 (k0_off1_inb _ 3) fx ∗ xP d c 2048#32 (k0_off1_inb _ 4) fx ∗ xP d c 2560#32 (k0_off1_inb _ 5) fx ∗ xP d c 3072#32 (k0_off1_inb _ 6) fx ∗ xP d c 3584#32 (k0_off1_inb _ 7) fx)
/-- Its eight blocks of the result at `fo`. -/
abbrev os (c : Fin (grid0.bound 0)) (fo : Buf (Elt F) ((oW).view.loc (Sc d c))) : sProp 𝕄 :=
  iprop(oP d c 0#32 (k0_off2_inb _ 0) fo ∗ oP d c 512#32 (k0_off2_inb _ 1) fo ∗ oP d c 1024#32 (k0_off2_inb _ 2) fo ∗ oP d c 1536#32 (k0_off2_inb _ 3) fo ∗ oP d c 2048#32 (k0_off2_inb _ 4) fo ∗ oP d c 2560#32 (k0_off2_inb _ 5) fo ∗ oP d c 3072#32 (k0_off2_inb _ 6) fo ∗ oP d c 3584#32 (k0_off2_inb _ 7) fo)
/-- Its sixteen counters at zero. -/
abbrev cells (c : Fin (grid0.bound 0)) : sProp 𝕄 :=
  iprop(cell d c 0 ∗ cell d c 1 ∗ cell d c 2 ∗ cell d c 3 ∗ cell d c 4 ∗ cell d c 5 ∗ cell d c 6 ∗ cell d c 7 ∗ cell d c 8 ∗ cell d c 9 ∗ cell d c 10 ∗ cell d c 11 ∗ cell d c 12 ∗ cell d c 13 ∗ cell d c 14 ∗ cell d c 15)

/-- Its four slots whole, at whatever they hold. -/
abbrev slots (c : Fin (grid0.bound 0)) : sProp 𝕄 :=
  iprop((∃ f, (s0W).view.loc (Sc d c) ↦{fullShare} f) ∗ (∃ f, (s1W).view.loc (Sc d c) ↦{fullShare} f)
    ∗ (∃ f, (s2W).view.loc (Sc d c) ↦{fullShare} f) ∗ (∃ f, (s3W).view.loc (Sc d c) ↦{fullShare} f))

/-- The body on core `c`'s sequencer: the table's blocks come back as they were, the result's hold the table's rows, every counter is at zero again. -/
theorem seq_run (c : Fin (grid0.bound 0)) (O : CellTallies nD τ sig (HIx 1)) (W : Waits sig (HIx 1))
    (fx : Buf (Elt F) ((xW).view.loc (Sc d c))) (fo : Buf (Elt F) ((oW).view.loc (Sc d c))) :
    (iprop(Transfers.MayWaits (Sc d c) (none : HIx 1) O ∗ xs d c fx ∗ os d c fo ∗ slots d c ∗ cells d c ∗ owes (Sc d c) O W) : sProp 𝕄)
      ⊢ wp frame (wpE (defs₀ (F := F)) 𝒱₀ (Sc d c) none) Set.univ
          (cc0__identity_rows_sc (coordsS c) xW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19)
          fun _ => iprop(xs d c fx ∗ os d c (rowsOf fx) ∗ slots d c ∗ cells d c ∗ ∃ W', owes (Sc d c) O W') := by
  iintro ⟨#Hmw, ⟨Hx0, Hx1, Hx2, Hx3, Hx4, Hx5, Hx6, Hx7⟩, ⟨Ho0, Ho1, Ho2, Ho3, Ho4, Ho5, Ho6, Ho7⟩,
    ⟨⟨%f0, Hs0⟩, ⟨%f1, Hs1⟩, ⟨%f2, Hs2⟩, ⟨%f3, Hs3⟩⟩,
    ⟨Hc0, Hc1, Hc2, Hc3, Hc4, Hc5, Hc6, Hc7, Hc8, Hc9, Hc10, Hc11, Hc12, Hc13, Hc14, Hc15⟩, HO⟩
  sl_unfold [cc0__identity_rows_sc]
  sl_exec
  sl_step
  isplitl [Hx0 Hx1 Hx2 Hx3 Hx4 Hx5 Hx6 Hx7]
  · iframe Hx0 Hx1 Hx2 Hx3 Hx4 Hx5 Hx6 Hx7
  isplitl [Ho0 Ho1 Ho2 Ho3 Ho4 Ho5 Ho6 Ho7]
  · -- each block at the table's rows: what its slot held before, and what the block held, are of no account
    isplitl [Ho0]; · iapply (Entails.of_eq (pointsTo_congr (chunk_value s0W c 0#32 (k0_off1_inb _ 0) (k0_off2_inb _ 0) (off_rows c 0) (off_lanes c 0) fx _ fo))); iexact Ho0
    isplitl [Ho1]; · iapply (Entails.of_eq (pointsTo_congr (chunk_value s1W c 512#32 (k0_off1_inb _ 1) (k0_off2_inb _ 1) (off_rows c 1) (off_lanes c 1) fx _ fo))); iexact Ho1
    isplitl [Ho2]; · iapply (Entails.of_eq (pointsTo_congr (chunk_value s2W c 1024#32 (k0_off1_inb _ 2) (k0_off2_inb _ 2) (off_rows c 2) (off_lanes c 2) fx _ fo))); iexact Ho2
    isplitl [Ho3]; · iapply (Entails.of_eq (pointsTo_congr (chunk_value s3W c 1536#32 (k0_off1_inb _ 3) (k0_off2_inb _ 3) (off_rows c 3) (off_lanes c 3) fx _ fo))); iexact Ho3
    isplitl [Ho4]; · iapply (Entails.of_eq (pointsTo_congr (chunk_value s0W c 2048#32 (k0_off1_inb _ 4) (k0_off2_inb _ 4) (off_rows c 4) (off_lanes c 4) fx _ fo))); iexact Ho4
    isplitl [Ho5]; · iapply (Entails.of_eq (pointsTo_congr (chunk_value s1W c 2560#32 (k0_off1_inb _ 5) (k0_off2_inb _ 5) (off_rows c 5) (off_lanes c 5) fx _ fo))); iexact Ho5
    isplitl [Ho6]; · iapply (Entails.of_eq (pointsTo_congr (chunk_value s2W c 3072#32 (k0_off1_inb _ 6) (k0_off2_inb _ 6) (off_rows c 6) (off_lanes c 6) fx _ fo))); iexact Ho6
    iapply (Entails.of_eq (pointsTo_congr (chunk_value s3W c 3584#32 (k0_off1_inb _ 7) (k0_off2_inb _ 7) (off_rows c 7) (off_lanes c 7) fx _ fo))); iexact Ho7
  isplitl [Hs0 Hs1 Hs2 Hs3]
  · isplitl [Hs0]; · iexists _; iexact Hs0
    isplitl [Hs1]; · iexists _; iexact Hs1
    isplitl [Hs2]; · iexists _; iexact Hs2
    iexists _; iexact Hs3
  isplitr [HO]
  · iframe Hc0 Hc1 Hc2 Hc3 Hc4 Hc5 Hc6 Hc7 Hc8 Hc9 Hc10 Hc11 Hc12 Hc13 Hc14 Hc15
  iexists _; iexact HO

end Cert.Proof.Rows

end
-- ==== Proof.Launch.lean ====
/-
  The launch: one call to both SparseCores' scalar sequencers. The TensorCore holds the table and the result
  whole; each core is handed its eight row blocks of both (`Rows`), runs the body on them (`Body`), and hands
  them back, the result's at the table's rows; joined again, they are the whole result at `rowsOf` of the
  table. `run_main` says so of every execution, with the table unchanged and every semaphore back at zero.
-/
module

public import proofs.«01_k».proof.Proof.Body

@[expose] public section

noncomputable section

namespace Cert.Proof.Rows

open Cert.KernelIdeal Cert.KernelIdeal.Gen

open Idealize.ShloMosaic
open Idealize.ShloMosaic.SparseCore (S T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels: the body table under the pipelines, of which there are none. -/
abbrev ΛP : Labels := Pipeline.Sig Λ₀ (Fin 0) fun p => (pcfgs (F := F) p).Adm
/-- The launch: one call. -/
abbrev K : SparseCore.Cfg τ sig (ΛP (F := F)) 1 := sc (F := F)
/-- The program's definitions. -/
abbrev D [FloatOps F] : Defs nD τ sig (Elt F) (ΛP (F := F)) := Pipeline.defs pcfgs defs₀
/-- The variants, none counted. -/
abbrev 𝒱 : Variants := 𝒱₀.lift
/-- The variant the program starts at. -/
abbrev v₀ : 𝒱.V := Sum.inl none

/-- The side conditions of the launch: its semaphores are distinct and unscoped, no shared buffer is a vector subcore's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds library is the left factor of the algebra. -/
abbrev EH : Emb UH (MT nD τ sig (HIx 1) (Elt F) ℕ UU ℕ) := embL

variable (m : (ℓ : Loc nD τ sig) → Buf (Elt F) ℓ) (ρ : Dev nD → PrngReg)

/-- The table in device `d`'s memory. -/
abbrev xLoc (d : Dev nD) : Loc nD τ sig := (SparseCore.T d).loc main_arg0
/-- The result in device `d`'s memory. -/
abbrev oLoc (d : Dev nD) : Loc nD τ sig := (SparseCore.T d).loc main_v0

variable [FloatOps F]

/-- What the result holds at the end: the rows of the table as launched. -/
def OUT (d : Dev nD) : Buf (Elt F) (oLoc d) := rowsOf (F := F) (m (xLoc d))

/-! ## The arrays by row blocks -/

/-- A core's blocks of the table at `f`. -/
abbrev xCore (d : Dev nD) (c : Fin 2) (f : Buf (Elt F) (xLoc d)) : sProp 𝕄 := bigSep Finset.univ fun r : Fin 8 => xLoc d ↦[xRows (c, r)]{fullShare} f
/-- A core's blocks of the result at `f`. -/
abbrev oCore (d : Dev nD) (c : Fin 2) (f : Buf (Elt F) (oLoc d)) : sProp 𝕄 := bigSep Finset.univ fun r : Fin 8 => oLoc d ↦[oRows (c, r)]{fullShare} f

omit [FloatOps F] in
/-- The table whole is its blocks, core by core; -/
theorem x_cores (d : Dev nD) (f : Buf (Elt F) (xLoc d)) :
    (xLoc d ↦{fullShare} f : sProp 𝕄) = bigSep Finset.univ fun c : Fin 2 => xCore d c f := by
  have h := pointsTo_biUnion (Name := ℕ) (U := UU) (Ix := HIx 1) (Lvl := ℕ) (ℓ := xLoc d) (q := fullShare) (f := f) (Finset.univ : Finset (Fin 2 × Fin 8)) xRows (fun p _ p' _ hp => xRows_disjoint p p' hp)
  refine Eq.trans (congrArg (fun I => (xLoc d ↦[I]{fullShare} f : sProp 𝕄)) xRows_cover.symm) (h.trans ?_)
  rw [← Finset.univ_product_univ, SparseCore.bigSep_product]

omit [FloatOps F] in
/-- the result likewise. -/
theorem o_cores (d : Dev nD) (f : Buf (Elt F) (oLoc d)) :
    (oLoc d ↦{fullShare} f : sProp 𝕄) = bigSep Finset.univ fun c : Fin 2 => oCore d c f := by
  have h := pointsTo_biUnion (Name := ℕ) (U := UU) (Ix := HIx 1) (Lvl := ℕ) (ℓ := oLoc d) (q := fullShare) (f := f) (Finset.univ : Finset (Fin 2 × Fin 8)) oRows (fun p _ p' _ hp => oRows_disjoint p p' hp)
  refine Eq.trans (congrArg (fun I => (oLoc d ↦[I]{fullShare} f : sProp 𝕄)) oRows_cover.symm) (h.trans ?_)
  rw [← Finset.univ_product_univ, SparseCore.bigSep_product]

omit [FloatOps F] in
/-- Eight things, one by one. -/
theorem bigSep_eight (Φ : Fin 8 → sProp 𝕄) :
    (bigSep Finset.univ Φ : sProp 𝕄) = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

omit [FloatOps F] in
/-- A block of the table as the sequencer's memref addresses it is a row block of the array; -/
theorem xP_eq (d : Dev nD) (c : Fin (grid0.bound 0)) (r : Fin 8) (f : Buf (Elt F) (xLoc d)) :
    xP d c (BitVec.ofNat 32 (512 * r.val)) (k0_off1_inb _ r) f = (xLoc d ↦[xRows (c, r)]{fullShare} f : sProp 𝕄) :=
  congrArg (fun I => (xLoc d ↦[I]{fullShare} f : sProp 𝕄)) (xM_set c r _)
omit [FloatOps F] in
/-- a block of the result likewise. -/
theorem oP_eq (d : Dev nD) (c : Fin (grid0.bound 0)) (r : Fin 8) (f : Buf (Elt F) (oLoc d)) :
    oP d c (BitVec.ofNat 32 (512 * r.val)) (k0_off2_inb _ r) f = (oLoc d ↦[oRows (c, r)]{fullShare} f : sProp 𝕄) :=
  congrArg (fun I => (oLoc d ↦[I]{fullShare} f : sProp 𝕄)) (oM_set c r _)

omit [FloatOps F] in
/-- A core's eight blocks of the table in the body's spelling are its row blocks; -/
theorem xs_eq (d : Dev nD) (c : Fin (grid0.bound 0)) (f : Buf (Elt F) (xLoc d)) : xs d c f = xCore d c f := by
  unfold xCore; rw [bigSep_eight]; simp only [← xP_eq]; rfl
omit [FloatOps F] in
/-- the result's likewise. -/
theorem os_eq (d : Dev nD) (c : Fin (grid0.bound 0)) (f : Buf (Elt F) (oLoc d)) : os d c f = oCore d c f := by
  unfold oCore; rw [bigSep_eight]; simp only [← oP_eq]; rfl

/-! ## What the call hands each core and takes back -/

/-- The call runs on at most two cores. -/
theorem nCore_le : ∀ q : Fin 1, (K (F := F)).nCore q ≤ 2 := show ∀ q : Fin 1, scNCore q ≤ 2 by decide

/-- Core `c` is handed its blocks of the table and of the result as launched, and hands back the table's unchanged and the result's at the table's rows. -/
def P : (K (F := F)).Pay (nD := nD) (Val := Elt F) (Name := ℕ) (U := UU) where
  st := fun q d c => iprop(xCore d (c.castLE (nCore_le (F := F) q)) (m (xLoc d)) ∗ oCore d (c.castLE (nCore_le (F := F) q)) (m (oLoc d)))
  dn := fun q d c => iprop(xCore d (c.castLE (nCore_le (F := F) q)) (m (xLoc d)) ∗ oCore d (c.castLE (nCore_le (F := F) q)) (OUT m d))
  go := fun _ _ _ _ => iprop(emp)
  td := fun _ _ _ _ => iprop(emp)
  x := fun _ _ => iprop(emp)

/-- What the handshakes carry may be stored in them. -/
instance P_storable : (P (F := F) m).IsStorable where
  st _ d c := by unfold P; infer_instance
  dn _ d c := by unfold P; infer_instance
  go _ _ _ _ := by unfold P; infer_instance
  td _ _ _ _ := by unfold P; infer_instance

/-! ## The body as the launch asks for it -/

section Body

variable (d : Dev nD)

/-- DMA counter `k` of core `c`. -/
abbrev dcell (c : Fin τ.nSC) (k : Fin 16) : GSem nD τ sig := (S d c, .dma (⟨k.val, k.isLt⟩ : DmaSem sig))

omit [FloatOps F] in
/-- A DMA counter of core `c` is one of its sequencer's own. -/
theorem dcell_mem (c : Fin τ.nSC) (k : Fin 16) : dcell d c k ∈ ownCells (S d c) :=
  mem_ownCells.mpr ⟨rfl, (show ∀ s : DmaSem sig, (SemLoc.dma s : SemLoc sig).isScoped .scScalar = true by decide) _⟩

omit [FloatOps F] in
/-- A sequencer's own counters at zero: the sixteen the body names, and the rest. -/
theorem ownSems0_S (c : Fin (grid0.bound 0)) :
    (ownSems0 (Sc d c) : sProp 𝕄)
      = iprop(cells d c ∗ bigSep ((ownCells (Sc d c)) \ Finset.univ.image (dcell d (c.castLE hcore0))) fun g => semVal g 0) := by
  unfold SparseCore.Cfg.ownSems0
  rw [SparseCore.bigSep_sdiff_split' (t := Finset.univ.image (dcell d (c.castLE hcore0))) (Finset.image_subset_iff.mpr fun k _ => dcell_mem d (c.castLE hcore0) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The staging slots, as buffers of a sequencer. -/
abbrev slotRef : Fin 4 → Ref sig .scScalar := ![cc0_scratch0, cc0_scratch1, cc0_scratch2, cc0_scratch3]

omit [FloatOps F] in
/-- A sequencer's own buffers: the four slots at some contents, and the rest. -/
theorem ownBufs_S (c : Fin (grid0.bound 0)) :
    (ownBufs (Sc d c) : sProp 𝕄)
      = iprop(slots d c
          ∗ bigSep ((ownRefs (τ := τ) (.scScalar (c.castLE hcore0))) \ Finset.univ.image fun k => (Proc.scScalar (c.castLE hcore0)).devRef (slotRef k)) fun b => iprop(∃ f, ((d, b) : Loc nD τ sig) ↦{fullShare} f)) := by
  unfold SparseCore.Cfg.ownBufs
  rw [SparseCore.bigSep_sdiff_split' (t := Finset.univ.image fun k => (Proc.scScalar (c.castLE hcore0)).devRef (slotRef k))
      (Finset.image_subset_iff.mpr fun k _ => (mem_ownRefs (p := Proc.scScalar (c.castLE hcore0)) (b := (Proc.scScalar (c.castLE hcore0)).devRef (slotRef k))).mpr (by fin_cases k <;> rfl)),
    SparseCore.bigSep_image_of_injOn (fun a _ b _ h => by revert a b; decide +revert)]
  rw [show (Finset.univ : Finset (Fin 4)) = {0, 1, 2, 3} by decide,
    SparseCore.bigSep_insert' (by decide), SparseCore.bigSep_insert' (by decide), SparseCore.bigSep_insert' (by decide), bigSep_singleton]
  rfl

/-- The kernel on core `c`'s sequencer in the launch's shape: its own buffers opened at the four slots, its own counters at the sixteen, around `seq_run`. -/
theorem body₀ (hF : (K (F := F)).Facts) (c : Fin (grid0.bound 0)) (O : CellTallies nD τ sig (HIx 1)) (W : Waits sig (HIx 1)) (hO : ∀ g, O g none = 0) :
    iprop(levAts (K (F := F)).L (K (F := F)).lev ∗ emp ∗ (xCore d c (m (xLoc d)) ∗ oCore d c (m (oLoc d)))
        ∗ scopedBufs (Sc d c) ∗ scopedSems0 (Sc d c) ∗ owes (Sc d c) O W)
      ⊢ wp frame (wpE (defs₀ (F := F)) 𝒱₀ (Sc d c) none) Set.univ
          (cc0__identity_rows_sc (coordsS c) xW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19)
          fun _ => iprop((xCore d c (m (xLoc d)) ∗ oCore d c (OUT m d)) ∗ scopedBufs (Sc d c) ∗ scopedSems0 (Sc d c)
            ∗ ∃ W', ⌜∀ p ∈ W', p ∈ W ∨ p.2 = none ∨ p.2 = some (0 : Fin 1)⌝ ∗ owes (Sc d c) O W') := by
  rw [(K (F := F)).scopedBufs_S hF d _, SparseCore.Cfg.scopedSems0_S (Val := Elt F) d _, ownSems0_S, ownBufs_S, ← xs_eq, ← os_eq, ← os_eq]
  iintro ⟨#Hlv, -, ⟨Hx, Ho⟩, ⟨⟨Hsl, Hbufs⟩, Htiles⟩, ⟨⟨HC, Hsems⟩, HtileSems⟩, HO⟩
  ihave Hmw := ((K (F := F)).mayWaits_none (thr := Sc d c) hO) $$ Hlv
  iapply (wp_wand_r Idealize.ShloMosaic.frame (wpE (defs₀ (F := F)) 𝒱₀ (Sc d c) none) Set.univ)
  isplitl [Hx Ho Hsl HC HO]
  · iapply (seq_run d c O W (m (xLoc d)) (m (oLoc d)))
    iframe Hmw Hx Ho Hsl HC HO
  iintro %_ ⟨Hx, Ho, Hsl, HC, %W', HO⟩
  isplitl [Hx Ho]
  · isplitl [Hx]; · iexact Hx
    iexact Ho
  isplitl [Hsl Hbufs Htiles]
  · iframe Hsl Hbufs Htiles
  isplitl [HC Hsems HtileSems]
  · iframe HC Hsems HtileSems
  iexists W'; isplitr
  · ipureintro; intro p _
    rcases p.2 with _ | q
    · exact .inr (.inl rfl)
    · exact .inr (.inr (congrArg some (Subsingleton.elim q 0)))
  · iexact HO

end Body

/-- What the body table runs on a sequencer at the call: the kernel at its core's grid point. -/
theorem defs₀_scalar (c : Fin τ.nSC) :
    defs₀ (F := F) (.scScalar c) 0 ()
      = SparseCore.onCore hcore0 (fun c => (cc0__identity_rows_sc (coordsS c) xW (Memref.isWhole_whole _) oW (Memref.isWhole_whole _)
            s0W (Memref.isWhole_whole _) s1W (Memref.isWhole_whole _) s2W (Memref.isWhole_whole _) s3W (Memref.isWhole_whole _)
            cc0_scratch4 cc0_scratch5 cc0_scratch6 cc0_scratch7 cc0_scratch8 cc0_scratch9 cc0_scratch10 cc0_scratch11
            cc0_scratch12 cc0_scratch13 cc0_scratch14 cc0_scratch15 cc0_scratch16 cc0_scratch17 cc0_scratch18 cc0_scratch19)) ⟨⟩ c := rfl

/-- The launch's obligation at the call: each core's sequencer runs `body₀`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body₀ m d facts ⟨c.val, hc⟩ O W hO

/-! ## The launch element: the handshakes' rounds, and nothing of the kernel's own -/

/-- The ghost state the program starts with. -/
def u₀ : UU := (initOf (K (F := F)).hsCells (K (F := F)).hsToks, 1)

omit [FloatOps F] in
/-- Nothing, once for each member of a set, is nothing. -/
theorem bigSep_emp' {I : Type} (s : Finset I) : (bigSep s fun _ => iprop(emp)) = (iprop(emp) : sProp 𝕄) := bigSep_emp_const s

/-- From it come the handshakes' rounds, and nothing for @main or for the kernel. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- The TensorCore's arrays: the table and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for its two cores is the table and the result whole, as launched; -/
theorem st0_eq (d : Dev nD) :
    (bigSep Finset.univ fun c : Fin ((K (F := F)).nCore 0) => (P m).st 0 d c) = iprop((xLoc d ↦{fullShare} m (xLoc d)) ∗ oLoc d ↦{fullShare} m (oLoc d)) := by
  rw [x_cores, o_cores]; exact bigSep_sep (Finset.univ : Finset (Fin 2)) (fun c => xCore d c (m (xLoc d))) fun c => oCore d c (m (oLoc d))

/-- what it hands back is the table unchanged and the result at the table's rows. -/
theorem dn0_eq (d : Dev nD) :
    (bigSep Finset.univ fun c : Fin ((K (F := F)).nCore 0) => (P m).dn 0 d c) = iprop((xLoc d ↦{fullShare} m (xLoc d)) ∗ oLoc d ↦{fullShare} OUT m d) := by
  rw [x_cores, o_cores]; exact bigSep_sep (Finset.univ : Finset (Fin 2)) (fun c => xCore d c (m (xLoc d))) fun c => oCore d c (OUT m d)

/-- What @main leaves the claim: the table at its launch contents, the result at the table's rows. -/
abbrev FIN (d : Dev nD) : sProp 𝕄 := iprop((xLoc d ↦{fullShare} m (xLoc d)) ∗ oLoc d ↦{fullShare} OUT m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## The program's run -/

/-- What a final state shows of device `d`: the table unchanged, the result at the table's rows. -/
def fq (d : Dev nD) (s' : Phys nD τ sig (Elt F)) : Prop := s'.mem.mem (xLoc d) = m (xLoc d) ∧ s'.mem.mem (oLoc d) = OUT m d

/-- What @main leaves shows it of the final state. -/
theorem hfin (d : Dev nD) (s' : Phys nD τ sig (Elt F)) : iprop(FIN m d ∗ SI s') ⊢ (⌜fq m d s'⌝ : sProp 𝕄) := by
  iintro ⟨⟨Hx, Ho⟩, HSI⟩
  icombine HSI Hx gives %hx
  icombine HSI Ho gives %ho
  ipureintro; exact ⟨funext fun i => hx i (Finset.mem_univ i), funext fun i => ho i (Finset.mem_univ i)⟩

/-- What the claims read of a final memory: on every device the table unchanged and the result at its rows; every counter at zero. -/
def QC : PUnit × MemSt nD τ sig (Elt F) → Prop := fun r =>
  (∀ c : Dev nD, r.2.mem (xLoc c) = m (xLoc c) ∧ r.2.mem (oLoc c) = OUT m c) ∧ r.2.sem = fun _ => 0

/-- THE RUN: every fair execution of the program terminates, with the result at the table's rows, for any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.RefRows.lean ====
/-
  What the reference computes: the rows 0, 1, …, 8191 of the table, taken in order, with a unit axis put in —
  `rowsOf` of the table. `jnp.take` prints as a gather between two guards: a negative index has 8192 added
  before it, and a row whose index is out of range is replaced by NaN after it. The indices are an iota, so no
  index is negative and none is out of range, and the gather reads row `r` at result row `r`.
-/
module

public import proofs.«01_k».proof.Proof.Rows
public import proofs.«01_k».proof.Proof.Gen.ReferenceIdeal.Run
public import Idealize.ShloMosaic.Lib.ReduceAll
public import Idealize.ShloMosaic.Lib.Pipeline.Value

@[expose] public section

noncomputable section

namespace Cert.Proof.RefRows

open Cert.ReferenceIdeal Cert.ReferenceIdeal.Gen Idealize.ShloMosaic Idealize.SL.Sem
open Idealize.ShloMosaic.Pipeline
open Cert.Proof.Rows (rowsOf at2)

variable {F : FTy → Type} [FloatOps F]

/-! ## The indices -/

/-- The row numbers. -/
abbrev rowIx : IVec S8192 32 := iotaInDim S8192 32 0
/-- The row numbers with the negative ones moved up by 8192. -/
abbrev wrapped : IVec S8192 32 :=
  select (cmpi .slt rowIx (broadcastInDim S8192 ![] bcast_S_S8192 (constantI S_ 32 0#32)))
    (addi rowIx (broadcastInDim S8192 ![] bcast_S_S8192 (constantI S_ 32 8192#32))) rowIx
/-- Those, as the column of indices the gather is given. -/
abbrev column : IVec S8192x1 32 := broadcastInDim S8192x1 ![0] bcast_S8192_S8192x1_0 wrapped

/-- The index of row `r` in a vector of 8192. -/
def at1 (r : Fin 8192) : S8192.Idx := fun a => match a with
  | ⟨0, _⟩ => r

/-- A row number as a 32-bit word, read signed, is itself. -/
theorem word_toInt {n : ℕ} (h : n < 8192) : (BitVec.ofNat 32 n).toInt = n := by
  rw [BitVec.toInt_ofNat']; exact Int.bmod_eq_of_le (by omega) (by omega)

/-- No row number is negative, so none is moved; -/
theorem wrapped_apply (j : S8192.Idx) : wrapped j = BitVec.ofNat 32 (j 0).val := by
  have h : (BitVec.ofNat 32 (j 0).val).slt 0#32 = false := by
    rw [BitVec.slt_eq_decide, word_toInt (j 0).isLt]; simp
  show Scalar.select (BitVec.ofBool ((BitVec.ofNat 32 (j 0).val).slt 0#32)) _ _ = _
  rw [h]; rfl

/-- as a column they are the same words. -/
theorem column_apply (k : S8192x1.Idx) : column k = BitVec.ofNat 32 (k 0).val :=
  (broadcastInDim_apply _ _ wrapped k (at1 (k 0)) fun a => by match a with | ⟨0, _⟩ => rfl).trans (wrapped_apply _)

/-! ## The guard after the gather -/

/-- The indices in range, element by element. -/
abbrev inRange : IVec S8192x1 1 :=
  andi (cmpi .sge column (broadcastInDim S8192x1 ![] bcast_S_S8192x1 (constantI S_ 32 0#32)))
    (cmpi .sle column (broadcastInDim S8192x1 ![0, 1] bcast_S1x1_S8192x1_0_1 (broadcastInDim S1x1 ![1] bcast_S1_S1x1_1 (constantI S1 32 8191#32))))
/-- The indices in range, row by row. -/
abbrev rowInRange : IVec S8192 1 := Host.reduce IntOp.andi inRange (constantI S_ 1 1#1) reducesTo_S8192x1_S8192_d1 h_S_

/-- Every index is in range; -/
theorem inRange_apply (k : S8192x1.Idx) : inRange k = 1#1 := by
  have hk : (k 0).val < 8192 := (k 0).isLt
  show IntOp.andi (BitVec.ofBool ((0#32).sle (column k))) (BitVec.ofBool ((column k).sle 8191#32)) = 1#1
  have h0 : (0#32).sle (column k) = true := by
    rw [column_apply, BitVec.sle_eq_decide, word_toInt hk]; simp
  have h1 : (column k).sle 8191#32 = true := by
    rw [column_apply, BitVec.sle_eq_decide, word_toInt hk]
    exact decide_eq_true (by show ((k 0).val : ℤ) ≤ 8191; omega)
  rw [h0, h1]; rfl

/-- so every row is. -/
theorem rowInRange_apply (j : S8192.Idx) : rowInRange j = 1#1 :=
  Host.reduce_andi_one _ _ _ _ j rfl inRange_apply

/-! ## The gather -/

/-- The reference's gather: whole rows of the table, one at each index. -/
abbrev G := gather_S8192x768_S8192x1_S8192x768_1_0_n_n_0_1_1768

/-- The gather's start indices for result element `j` are read at row `j 0`. -/
theorem siIdx_row (j : S8192x768.Idx) (c : Fin G.startIndexMap.length) : (G.siIdx j c 0).val = (j 0).val := rfl

/-- The element of the table the gather reads for result element `j` is element `j`. -/
theorem operandIdx_eq (j : S8192x768.Idx) : G.operandIdx j column = j := by
  have hj : (j 0).val < 8192 := (j 0).isLt
  have hs : G.start j column 0 = (j 0).val := by
    unfold GatherDims.start
    rw [dif_pos (show (0 : Fin 2) ∈ G.startIndexMap from List.mem_singleton.mpr rfl), column_apply, siIdx_row, word_toInt hj]
    show min ((j 0).val : ℤ).toNat (8192 - 1) = _
    omega
  funext a
  apply Fin.ext
  show G.start j column a + G.batchCoord j a + G.offCoord j a = (j a).val
  rw [G.batchCoord_eq_zero j a List.not_mem_nil]
  match a with
  | ⟨0, _⟩ =>
    have h0 : G.offCoord j 0 = 0 :=
      G.offCoord_eq_zero j 0 fun h => ((G.mem_sKept 0).mp h).1 (List.mem_singleton.mpr rfl)
    exact (congrArg (_ + 0 + ·) h0).trans hs
  | ⟨1, _⟩ =>
    have h1 : G.start j column 1 = 0 := by
      unfold GatherDims.start; exact dif_neg (show (1 : Fin 2) ∉ ([0] : List (Fin 2)) by decide)
    exact (congrArg (· + 0 + _) h1).trans (Nat.zero_add _)

/-! ## The reference's result -/

/-- The composed term of the reference's operations, at the table `t`. -/
abbrev taken (t : S8192x768.Idx → Elt F .f32) : S8192x768.Idx → Elt F .f32 :=
  select (broadcastInDim S8192x768 ![0] bcast_S8192_S8192x768_0 rowInRange) (Host.gather G t column)
    (broadcastInDim S8192x768 ![] bcast_S_S8192x768 (constant S_ .f32 0x7FC00000#32))

/-- The rows taken in order are the table. -/
theorem taken_eq (t : S8192x768.Idx → Elt F .f32) : taken t = t := by
  funext j
  show Scalar.select (broadcastInDim S8192x768 ![0] bcast_S8192_S8192x768_0 rowInRange j) (t (G.operandIdx j column)) _ = t j
  rw [broadcastInDim_apply _ _ rowInRange j (at1 (j 0)) (fun a => by match a with | ⟨0, _⟩ => rfl), rowInRange_apply, operandIdx_eq]
  rfl

/-- With the unit axis put in they are `rowsOf` the table. -/
theorem result_eq (t : S8192x768.Idx → Elt F .f32) :
    broadcastInDim S8192x1x768 ![0, 2] bcast_S8192x768_S8192x1x768_0_2 (taken t) = rowsOf t := by
  rw [taken_eq]
  funext i
  refine broadcastInDim_apply _ _ t i (at2 (i 0) (i 2)) fun a => ?_
  match a with
  | ⟨0, _⟩ => rfl
  | ⟨1, _⟩ => rfl

/-- THE REFERENCE'S RUN: every execution terminates with the result at `rowsOf` of the table and the table unchanged, for any float values. -/
theorem run_main (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2) = rowsOf (F := F) (m ((c.tc : Thread nD τ).loc main_arg0))
      ∧ r.2.mem ((c.tc : Thread nD τ).loc main_arg0) = m ((c.tc : Thread nD τ).loc main_arg0) :=
  (θ_run (defs (F := F)) _ _).mono (fun _ h c => ⟨(h c).1.trans (result_eq _), (h c).2⟩) (Cert.ReferenceIdeal.Value.run m ρ)

end Cert.Proof.RefRows

end
-- ==== Proof.lean ====
/-
  The certificate of a positional embedding's lookup, every row of the table in order. Two runs carry it, each
  stated once for any float values: the kernel's (`Rows.run_main`, Proof/Launch.lean) and the reference's
  (`RefRows.run_main`, Proof/RefRows.lean). Both end with the result at `rowsOf` of the table and the table as
  it was; the kernel's also ends with every semaphore counter at zero, and the reference declares no semaphore.
  The frames and the two value claims are those runs, read.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.RefRows
public import Idealize.ShloMosaic.Adequacy
public import Idealize.ShloMosaic.Init

@[expose] public section

noncomputable section

namespace Cert.Proof

open Idealize.ShloMosaic Idealize.SL.Sem
open Cert.Proof.Rows (rowsOf OUT xLoc oLoc)

/-! ## The frames -/

/-- The kernel's frame: its program is the idealised kernel's, so its run is that run at the machine's floats. -/
theorem frame_kernel : Cert.quiescent_Kernel := fun m ρ _ =>
  (θ_run Cert.KernelIdeal.defs _ _).mono (fun _ h => ⟨fun c => (h.1 c).1, h.2⟩) (Rows.run_main (F := Bits) m ρ)

/-- The idealised kernel's frame. -/
theorem frame_ideal : Cert.quiescent_KernelIdeal := fun m ρ _ =>
  (θ_run Cert.KernelIdeal.defs _ _).mono (fun _ h => ⟨fun c => (h.1 c).1, h.2⟩) (Rows.run_main (F := Ideal) m ρ)

/-- The idealised reference's frame. -/
theorem frame_refideal : Cert.quiescent_ReferenceIdeal := fun m ρ _ =>
  (θ_run Cert.ReferenceIdeal.defs _ _).mono (fun r h => ⟨fun c => (h c).2, sem_eq_zero_of_no_sems (by decide) r.2⟩)
    (RefRows.run_main (F := Ideal) m ρ)

/-- The reference's frame: its program is the idealised reference's, so its run is that run at the machine's floats. -/
theorem frame_ref : Cert.quiescent_Reference := fun m ρ _ =>
  (θ_run Cert.ReferenceIdeal.defs _ _).mono (fun r h => ⟨fun c => (h c).2, sem_eq_zero_of_no_sems (by decide) r.2⟩)
    (RefRows.run_main (F := Bits) m ρ)

/-! ## The values -/

/-- The two results agree, for any float values: from memories that agree on the table both runs end with their
    results at `rowsOf` of it. -/
theorem agree {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg)
    (hx : ∀ c : Dev Cert.KernelIdeal.nD, m' ((c.tc : Thread Cert.ReferenceIdeal.nD Cert.ReferenceIdeal.τ).loc Cert.ReferenceIdeal.main_arg0) = m (xLoc c)) :
    θ_run (Cert.KernelIdeal.defs (F := F)) (Cert.KernelIdeal.threads (F := F)) ⟨m, fun _ => 0, ρ⟩
        (fun r => ∀ c, r.2.mem (oLoc c) = OUT m c ∧ r.2.mem (xLoc c) = m (xLoc c))
      ∧ θ_run (Cert.ReferenceIdeal.defs (F := F)) (onTc (τ := Cert.ReferenceIdeal.τ) (Cert.ReferenceIdeal.main (F := F))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v2) = OUT m c
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  ⟨(θ_run Cert.KernelIdeal.defs _ _).mono (fun _ h c => ⟨(h.1 c).2, (h.1 c).1⟩) (Rows.run_main m ρ),
    (θ_run Cert.ReferenceIdeal.defs _ _).mono (fun _ h c => ⟨(h c).1.trans (congrArg (rowsOf (F := F)) (hx c)), (h c).2⟩)
      (RefRows.run_main m' ρ')⟩

/-- The idealised kernel computes what the idealised reference does. -/
theorem algebraic : Cert.algebraic_KernelIdeal_ReferenceIdeal := fun m ρ m' ρ' _ hx =>
  ⟨fun c => OUT m c, agree (F := Ideal) m ρ m' ρ' hx⟩

/-- The kernel's result is the reference's, bit for bit. -/
theorem bitexact : Cert.bitexact_Kernel_Reference := fun m ρ m' ρ' _ hx =>
  ⟨fun c => OUT (F := Bits) m c, agree (F := Bits) m ρ m' ρ' hx⟩

/-- Everything claimed. -/
theorem claim : Cert.Claim :=
  ⟨Cert.Kernel.Gen.facts, Cert.KernelIdeal.Gen.facts, Cert.ReferenceIdeal.Gen.facts, Cert.Reference.Gen.facts,
    frame_kernel, frame_ideal, frame_refideal, frame_ref, trivial, algebraic, bitexact⟩

end Cert.Proof

end
